-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cache_is_filled_from_empty [hPre_cache_is_filled_from_empty : Cert.Pre_cache_is_filled_from_empty.Facts] (m : (ℓ : Loc Cert.KernelIdeal.nD Cert.KernelIdeal.τ Cert.KernelIdeal.sig) → Buf (Elt Ideal) ℓ) : Prop :=
  ∀ c : Dev Cert.KernelIdeal.nD,
    (Cert.Pre_cache_is_filled_from_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_cache_is_filled_from_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_cache_is_filled_from_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_cache_is_filled_from_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_cache_is_filled_from_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cache_is_filled_from_empty [hPre_cache_is_filled_from_empty : Cert.Pre_cache_is_filled_from_empty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cache_is_filled_from_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_cache_is_filled_from_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_cache_is_filled_from_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_cache_is_filled_from_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_cache_is_filled_from_empty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_cache_is_filled_from_empty [hKernelIdeal : Cert.KernelIdeal.Facts] [hPre_cache_is_filled_from_empty : Cert.Pre_cache_is_filled_from_empty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cache_is_filled_from_empty m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_cache_is_filled_from_empty [hReferenceIdeal : Cert.ReferenceIdeal.Facts] [hPre_cache_is_filled_from_empty : Cert.Pre_cache_is_filled_from_empty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cache_is_filled_from_empty m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_cache_is_filled_from_empty [hKernelIdeal : Cert.KernelIdeal.Facts] [hReferenceIdeal : Cert.ReferenceIdeal.Facts] [hPre_cache_is_filled_from_empty : Cert.Pre_cache_is_filled_from_empty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cache_is_filled_from_empty m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_cache_is_filled_from_empty : Cert.Pre_cache_is_filled_from_empty.Facts),
    quiescent_Kernel (hKernel := hKernel)
    ∧ quiescent_KernelIdeal (hKernelIdeal := hKernelIdeal)
    ∧ quiescent_KernelIdeal_pre_cache_is_filled_from_empty (hKernelIdeal := hKernelIdeal) (hPre_cache_is_filled_from_empty := hPre_cache_is_filled_from_empty)
    ∧ quiescent_ReferenceIdeal (hReferenceIdeal := hReferenceIdeal)
    ∧ quiescent_ReferenceIdeal_pre_cache_is_filled_from_empty (hReferenceIdeal := hReferenceIdeal) (hPre_cache_is_filled_from_empty := hPre_cache_is_filled_from_empty)
    ∧ preserves_Kernel_KernelIdeal
    ∧ algebraic_KernelIdeal_ReferenceIdeal_pre_cache_is_filled_from_empty (hKernelIdeal := hKernelIdeal) (hReferenceIdeal := hReferenceIdeal) (hPre_cache_is_filled_from_empty := hPre_cache_is_filled_from_empty)
-- ==== Pre_cache_is_filled_from_empty.lean ====
abbrev S4096 : Shape := ⟨1, ![4096]⟩
abbrev S1x32x4096x128 : Shape := ⟨4, ![1, 32, 4096, 128]⟩
abbrev S15 : Shape := ⟨1, ![15]⟩
abbrev S128x128 : Shape := ⟨2, ![128, 128]⟩
abbrev S1x32x8192x64 : Shape := ⟨4, ![1, 32, 8192, 64]⟩
abbrev S1x32x8192x1 : Shape := ⟨4, ![1, 32, 8192, 1]⟩
abbrev S_ : Shape := ⟨0, ![]⟩

class Facts : Prop where
  bcast_S_S1x32x8192x64 : S_.BroadcastsInDim S1x32x8192x64 (![] : Fin 0 → Fin S1x32x8192x64.rank)
  bcast_S_S1x32x8192x1 : S_.BroadcastsInDim S1x32x8192x1 (![] : Fin 0 → Fin S1x32x8192x1.rank)

variable [Facts]

def fn {F : FTy → Type} [FloatOps F] (main_arg0 : IVec S4096 32) (main_arg1 : FVec F S1x32x4096x128 .f32) (main_arg2 : FVec F S1x32x4096x128 .f32) (main_arg3 : FVec F S15 .bf16) (main_arg4 : FVec F S128x128 .bf16) (main_arg5 : IVec S1x32x8192x64 8) (main_arg6 : FVec F S1x32x8192x1 .bf16) (main_arg7 : IVec S1x32x8192x64 8) (main_arg8 : FVec F S1x32x8192x1 .bf16) : IVec S4096 1 × IVec S1x32x8192x64 1 × IVec S1x32x8192x1 1 × IVec S1x32x8192x64 1 × IVec S1x32x8192x1 1 :=
  let main_v0 : IVec S4096 32 := iotaInDim S4096 32 0
  let main_v1 : IVec S4096 1 := cmpi .eq main_arg0 main_v0
  let main_c : IVec S_ 8 := constantI S_ 8 0#8
  let main_v2 : IVec S1x32x8192x64 8 := broadcastInDim S1x32x8192x64 ![] bcast_S_S1x32x8192x64 main_c
  let main_v3 : IVec S1x32x8192x64 1 := cmpi .eq main_arg5 main_v2
  let main_cst : FVec F S_ .bf16 := constant S_ .bf16 0x0000#16
  let main_v4 : FVec F S1x32x8192x1 .bf16 := broadcastInDim S1x32x8192x1 ![] bcast_S_S1x32x8192x1 main_cst
  let main_v5 : IVec S1x32x8192x1 1 := cmpf .oeq main_arg6 main_v4
  let main_c_0 : IVec S_ 8 := constantI S_ 8 0#8
  let main_v6 : IVec S1x32x8192x64 8 := broadcastInDim S1x32x8192x64 ![] bcast_S_S1x32x8192x64 main_c_0
  let main_v7 : IVec S1x32x8192x64 1 := cmpi .eq main_arg7 main_v6
  let main_cst_1 : FVec F S_ .bf16 := constant S_ .bf16 0x0000#16
  let main_v8 : FVec F S1x32x8192x1 .bf16 := broadcastInDim S1x32x8192x1 ![] bcast_S_S1x32x8192x1 main_cst_1
  let main_v9 : IVec S1x32x8192x1 1 := cmpf .oeq main_arg8 main_v8
  (main_v1, main_v3, main_v5, main_v7, main_v9)
-- ==== Kernel.lean ====
abbrev S4096 : Shape := ⟨1, ![4096]⟩
abbrev S1x32x4096x128 : Shape := ⟨4, ![1, 32, 4096, 128]⟩
abbrev S15 : Shape := ⟨1, ![15]⟩
abbrev S128x128 : Shape := ⟨2, ![128, 128]⟩
abbrev S1x32x8192x64 : Shape := ⟨4, ![1, 32, 8192, 64]⟩
abbrev S1x32x8192x1 : Shape := ⟨4, ![1, 32, 8192, 1]⟩
abbrev S128x64 : Shape := ⟨2, ![128, 64]⟩
abbrev S_ : Shape := ⟨0, ![]⟩
abbrev S128x256 : Shape := ⟨2, ![128, 256]⟩
abbrev S256x256 : Shape := ⟨2, ![256, 256]⟩
abbrev S128x1 : Shape := ⟨2, ![128, 1]⟩
abbrev S128x2 : Shape := ⟨2, ![128, 2]⟩
abbrev S256x2 : Shape := ⟨2, ![256, 2]⟩
abbrev S1x32x2x4096x64 : Shape := ⟨5, ![1, 32, 2, 4096, 64]⟩
abbrev S1x32x2x4096x1 : Shape := ⟨5, ![1, 32, 2, 4096, 1]⟩
abbrev S1x1x1024x128 : Shape := ⟨4, ![1, 1, 1024, 128]⟩
abbrev S1x1x2x1024x64 : Shape := ⟨5, ![1, 1, 2, 1024, 64]⟩
abbrev S1x1x2x1024x1 : Shape := ⟨5, ![1, 1, 2, 1024, 1]⟩
abbrev S1024x128 : Shape := ⟨2, ![1024, 128]⟩
abbrev S1024x256 : Shape := ⟨2, ![1024, 256]⟩
abbrev S1024x2 : Shape := ⟨2, ![1024, 2]⟩
abbrev S1024x1 : Shape := ⟨2, ![1024, 1]⟩
abbrev S1 : Shape := ⟨1, ![1]⟩
abbrev S1024x64 : Shape := ⟨2, ![1024, 64]⟩
abbrev S1x1x1x1024x64 : Shape := ⟨5, ![1, 1, 1, 1024, 64]⟩
abbrev S1x1x1x1024x1 : Shape := ⟨5, ![1, 1, 1, 1024, 1]⟩

abbrev nBuf : Space → Nat
  | .hbm => 28
  | .vmem => 14
  | .smem => 1
  | _ => 0

abbrev bufTy : (tb : Table) → Fin (tcTables nBuf tb) → BufTy
  | .hbm, ⟨0, _⟩ => ⟨S4096, .i32⟩
  | .hbm, ⟨1, _⟩ => ⟨S1x32x4096x128, .f32⟩
  | .hbm, ⟨2, _⟩ => ⟨S1x32x4096x128, .f32⟩
  | .hbm, ⟨3, _⟩ => ⟨S15, .bf16⟩
  | .hbm, ⟨4, _⟩ => ⟨S128x128, .bf16⟩
  | .hbm, ⟨5, _⟩ => ⟨S1x32x8192x64, .i8⟩
  | .hbm, ⟨6, _⟩ => ⟨S1x32x8192x1, .bf16⟩
  | .hbm, ⟨7, _⟩ => ⟨S1x32x8192x64, .i8⟩
  | .hbm, ⟨8, _⟩ => ⟨S1x32x8192x1, .bf16⟩
  | .hbm, ⟨9, _⟩ => ⟨S128x64, .bf16⟩
  | .hbm, ⟨10, _⟩ => ⟨S128x64, .bf16⟩
  | .hbm, ⟨11, _⟩ => ⟨S_, .bf16⟩
  | .hbm, ⟨12, _⟩ => ⟨S128x64, .bf16⟩
  | .hbm, ⟨13, _⟩ => ⟨S128x256, .bf16⟩
  | .hbm, ⟨14, _⟩ => ⟨S128x256, .bf16⟩
  | .hbm, ⟨15, _⟩ => ⟨S256x256, .bf16⟩
  | .hbm, ⟨16, _⟩ => ⟨S_, .bf16⟩
  | .hbm, ⟨17, _⟩ => ⟨S128x1, .bf16⟩
  | .hbm, ⟨18, _⟩ => ⟨S_, .bf16⟩
  | .hbm, ⟨19, _⟩ => ⟨S128x1, .bf16⟩
  | .hbm, ⟨20, _⟩ => ⟨S128x2, .bf16⟩
  | .hbm, ⟨21, _⟩ => ⟨S128x2, .bf16⟩
  | .hbm, ⟨22, _⟩ => ⟨S256x2, .bf16⟩
  | .hbm, ⟨23, _⟩ => ⟨S15, .f32⟩
  | .hbm, ⟨24, _⟩ => ⟨S1x32x2x4096x64, .i8⟩
  | .hbm, ⟨25, _⟩ => ⟨S1x32x2x4096x1, .bf16⟩
  | .hbm, ⟨26, _⟩ => ⟨S1x32x2x4096x64, .i8⟩
  | .hbm, ⟨27, _⟩ => ⟨S1x32x2x4096x1, .bf16⟩
  | .local _ .vmem, ⟨0, _⟩ => ⟨S1x1x1024x128, .f32⟩
  | .local _ .vmem, ⟨1, _⟩ => ⟨S1x1x1024x128, .f32⟩
  | .local _ .vmem, ⟨2, _⟩ => ⟨S1x1x1024x128, .f32⟩
  | .local _ .vmem, ⟨3, _⟩ => ⟨S1x1x1024x128, .f32⟩
  | .local _ .vmem, ⟨4, _⟩ => ⟨S256x256, .bf16⟩
  | .local _ .vmem, ⟨5, _⟩ => ⟨S256x2, .bf16⟩
  | .local _ .vmem, ⟨6, _⟩ => ⟨S1x1x2x1024x64, .i8⟩
  | .local _ .vmem, ⟨7, _⟩ => ⟨S1x1x2x1024x64, .i8⟩
  | .local _ .vmem, ⟨8, _⟩ => ⟨S1x1x2x1024x1, .bf16⟩
  | .local _ .vmem, ⟨9, _⟩ => ⟨S1x1x2x1024x1, .bf16⟩
  | .local _ .vmem, ⟨10, _⟩ => ⟨S1x1x2x1024x64, .i8⟩
  | .local _ .vmem, ⟨11, _⟩ => ⟨S1x1x2x1024x64, .i8⟩
  | .local _ .vmem, ⟨12, _⟩ => ⟨S1x1x2x1024x1, .bf16⟩
  | .local _ .vmem, ⟨13, _⟩ => ⟨S1x1x2x1024x1, .bf16⟩
  | .local _ .smem, ⟨0, _⟩ => ⟨S15, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

abbrev stage0_0 : Fin 1 → Memref sig .tc .smem S15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2x1024x64 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x1024x1 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x1024x64 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x1024x1 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096 : Shape := ⟨1, ![4096]⟩
abbrev S1x32x4096x128 : Shape := ⟨4, ![1, 32, 4096, 128]⟩
abbrev S15 : Shape := ⟨1, ![15]⟩
abbrev S128x128 : Shape := ⟨2, ![128, 128]⟩
abbrev S1x32x8192x64 : Shape := ⟨4, ![1, 32, 8192, 64]⟩
abbrev S1x32x8192x1 : Shape := ⟨4, ![1, 32, 8192, 1]⟩
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S131072x128x1 : Shape := ⟨3, ![131072, 128, 1]⟩
abbrev S1x1x15 : Shape := ⟨3, ![1, 1, 15]⟩
abbrev S131072x128x15 : Shape := ⟨3, ![131072, 128, 15]⟩
abbrev S131072x64 : Shape := ⟨2, ![131072, 64]⟩
abbrev S1x32x4096x64 : Shape := ⟨4, ![1, 32, 4096, 64]⟩
abbrev S1x32x4096x1 : Shape := ⟨4, ![1, 32, 4096, 1]⟩
abbrev S4096x1 : Shape := ⟨2, ![4096, 1]⟩
abbrev S1x32x2x4096x64 : Shape := ⟨5, ![1, 32, 2, 4096, 64]⟩
abbrev S1x32x2x4096x1 : Shape := ⟨5, ![1, 32, 2, 4096, 1]⟩

abbrev nBuf : Space → Nat
  | .hbm => 119
  | .vmem => 0
  | .smem => 0
  | _ => 0

abbrev bufTy : (tb : Table) → Fin (tcTables nBuf tb) → BufTy
  | .hbm, ⟨0, _⟩ => ⟨S4096, .i32⟩
  | .hbm, ⟨1, _⟩ => ⟨S1x32x4096x128, .f32⟩
  | .hbm, ⟨2, _⟩ => ⟨S1x32x4096x128, .f32⟩
  | .hbm, ⟨3, _⟩ => ⟨S15, .bf16⟩
  | .hbm, ⟨4, _⟩ => ⟨S128x128, .bf16⟩
  | .hbm, ⟨5, _⟩ => ⟨S1x32x8192x64, .i8⟩
  | .hbm, ⟨6, _⟩ => ⟨S1x32x8192x1, .bf16⟩
  | .hbm, ⟨7, _⟩ => ⟨S1x32x8192x64, .i8⟩
  | .hbm, ⟨8, _⟩ => ⟨S1x32x8192x1, .bf16⟩
  | .hbm, ⟨9, _⟩ => ⟨S131072x128, .f32⟩
  | .hbm, ⟨10, _⟩ => ⟨S131072x128, .bf16⟩
  | .hbm, ⟨11, _⟩ => ⟨S131072x128, .bf16⟩
  | .hbm, ⟨12, _⟩ => ⟨S131072x128, .f32⟩
  | .hbm, ⟨13, _⟩ => ⟨S_, .f32⟩
  | .hbm, ⟨14, _⟩ => ⟨S131072, .f32⟩
  | .hbm, ⟨15, _⟩ => ⟨S131072x1, .f32⟩
  | .hbm, ⟨16, _⟩ => ⟨S131072x1, .bf16⟩
  | .hbm, ⟨17, _⟩ => ⟨S131072x1, .bf16⟩
  | .hbm, ⟨18, _⟩ => ⟨S_, .bf16⟩
  | .hbm, ⟨19, _⟩ => ⟨S131072x1, .bf16⟩
  | .hbm, ⟨20, _⟩ => ⟨S131072x1, .bf16⟩
  | .hbm, ⟨21, _⟩ => ⟨S131072x128, .bf16⟩
  | .hbm, ⟨22, _⟩ => ⟨S131072x128, .bf16⟩
  | .hbm, ⟨23, _⟩ => ⟨S131072x128, .f32⟩
  | .hbm, ⟨24, _⟩ => ⟨S131072x128, .bf16⟩
  | .hbm, ⟨25, _⟩ => ⟨S131072x128, .f32⟩
  | .hbm, ⟨26, _⟩ => ⟨S131072x128x1, .f32⟩
  | .hbm, ⟨27, _⟩ => ⟨S15, .f32⟩
  | .hbm, ⟨28, _⟩ => ⟨S1x1x15, .f32⟩
  | .hbm, ⟨29, _⟩ => ⟨S131072x128x15, .f32⟩
  | .hbm, ⟨30, _⟩ => ⟨S131072x128x15, .f32⟩
  | .hbm, ⟨31, _⟩ => ⟨S131072x128x15, .i1⟩
  | .hbm, ⟨32, _⟩ => ⟨S131072x128x15, .i32⟩
  | .hbm, ⟨33, _⟩ => ⟨S_, .i32⟩
  | .hbm, ⟨34, _⟩ => ⟨S131072x128, .i32⟩
  | .hbm, ⟨35, _⟩ => ⟨S131072x64, .i32⟩
  | .hbm, ⟨36, _⟩ => ⟨S_, .i32⟩
  | .hbm, ⟨37, _⟩ => ⟨S131072x64, .i32⟩
  | .hbm, ⟨38, _⟩ => ⟨S131072x64, .i32⟩
  | .hbm, ⟨39, _⟩ => ⟨S131072x64, .i32⟩
  | .hbm, ⟨40, _⟩ => ⟨S131072x64, .i32⟩
  | .hbm, ⟨41, _⟩ => ⟨S131072x64, .i8⟩
  | .hbm, ⟨42, _⟩ => ⟨S1x32x4096x64, .i8⟩
  | .hbm, ⟨43, _⟩ => ⟨S1x32x4096x1, .bf16⟩
  | .hbm, ⟨44, _⟩ => ⟨S131072x128, .f32⟩
  | .hbm, ⟨45, _⟩ => ⟨S131072x128, .bf16⟩
  | .hbm, ⟨46, _⟩ => ⟨S131072x128, .bf16⟩
  | .hbm, ⟨47, _⟩ => ⟨S131072x128, .f32⟩
  | .hbm, ⟨48, _⟩ => ⟨S_, .f32⟩
  | .hbm, ⟨49, _⟩ => ⟨S131072, .f32⟩
  | .hbm, ⟨50, _⟩ => ⟨S131072x1, .f32⟩
  | .hbm, ⟨51, _⟩ => ⟨S131072x1, .bf16⟩
  | .hbm, ⟨52, _⟩ => ⟨S131072x1, .bf16⟩
  | .hbm, ⟨53, _⟩ => ⟨S_, .bf16⟩
  | .hbm, ⟨54, _⟩ => ⟨S131072x1, .bf16⟩
  | .hbm, ⟨55, _⟩ => ⟨S131072x1, .bf16⟩
  | .hbm, ⟨56, _⟩ => ⟨S131072x128, .bf16⟩
  | .hbm, ⟨57, _⟩ => ⟨S131072x128, .bf16⟩
  | .hbm, ⟨58, _⟩ => ⟨S131072x128, .f32⟩
  | .hbm, ⟨59, _⟩ => ⟨S131072x128, .bf16⟩
  | .hbm, ⟨60, _⟩ => ⟨S131072x128, .f32⟩
  | .hbm, ⟨61, _⟩ => ⟨S131072x128x1, .f32⟩
  | .hbm, ⟨62, _⟩ => ⟨S15, .f32⟩
  | .hbm, ⟨63, _⟩ => ⟨S1x1x15, .f32⟩
  | .hbm, ⟨64, _⟩ => ⟨S131072x128x15, .f32⟩
  | .hbm, ⟨65, _⟩ => ⟨S131072x128x15, .f32⟩
  | .hbm, ⟨66, _⟩ => ⟨S131072x128x15, .i1⟩
  | .hbm, ⟨67, _⟩ => ⟨S131072x128x15, .i32⟩
  | .hbm, ⟨68, _⟩ => ⟨S_, .i32⟩
  | .hbm, ⟨69, _⟩ => ⟨S131072x128, .i32⟩
  | .hbm, ⟨70, _⟩ => ⟨S131072x64, .i32⟩
  | .hbm, ⟨71, _⟩ => ⟨S_, .i32⟩
  | .hbm, ⟨72, _⟩ => ⟨S131072x64, .i32⟩
  | .hbm, ⟨73, _⟩ => ⟨S131072x64, .i32⟩
  | .hbm, ⟨74, _⟩ => ⟨S131072x64, .i32⟩
  | .hbm, ⟨75, _⟩ => ⟨S131072x64, .i32⟩
  | .hbm, ⟨76, _⟩ => ⟨S131072x64, .i8⟩
  | .hbm, ⟨77, _⟩ => ⟨S1x32x4096x64, .i8⟩
  | .hbm, ⟨78, _⟩ => ⟨S1x32x4096x1, .bf16⟩
  | .hbm, ⟨79, _⟩ => ⟨S_, .i32⟩
  | .hbm, ⟨80, _⟩ => ⟨S4096, .i32⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .i32⟩
  | .hbm, ⟨86, _⟩ => ⟨S4096x1, .i32⟩
  | .hbm, ⟨87, _⟩ => ⟨S1x32x8192x64, .i8⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S1x32x8192x1, .bf16⟩
  | .hbm, ⟨97, _⟩ => ⟨S_, .i32⟩
  | .hbm, ⟨98, _⟩ => ⟨S4096, .i32⟩
  | .hbm, ⟨99, _⟩ => ⟨S4096, .i1⟩
  | .hbm, ⟨100, _⟩ => ⟨S_, .i32⟩
  | .hbm, ⟨101, _⟩ => ⟨S4096, .i32⟩
  | .hbm, ⟨102, _⟩ => ⟨S4096, .i32⟩
  | .hbm, ⟨103, _⟩ => ⟨S4096, .i32⟩
  | .hbm, ⟨104, _⟩ => ⟨S4096x1, .i32⟩
  | .hbm, ⟨105, _⟩ => ⟨S1x32x8192x64, .i8⟩
  | .hbm, ⟨106, _⟩ => ⟨S_, .i32⟩
  | .hbm, ⟨107, _⟩ => ⟨S4096, .i32⟩
  | .hbm, ⟨108, _⟩ => ⟨S4096, .i1⟩
  | .hbm, ⟨109, _⟩ => ⟨S_, .i32⟩
  | .hbm, ⟨110, _⟩ => ⟨S4096, .i32⟩
  | .hbm, ⟨111, _⟩ => ⟨S4096, .i32⟩
  | .hbm, ⟨112, _⟩ => ⟨S4096, .i32⟩
  | .hbm, ⟨113, _⟩ => ⟨S4096x1, .i32⟩
  | .hbm, ⟨114, _⟩ => ⟨S1x32x8192x1, .bf16⟩
  | .hbm, ⟨115, _⟩ => ⟨S1x32x2x4096x64, .i8⟩
  | .hbm, ⟨116, _⟩ => ⟨S1x32x2x4096x1, .bf16⟩
  | .hbm, ⟨117, _⟩ => ⟨S1x32x2x4096x64, .i8⟩
  | .hbm, ⟨118, _⟩ => ⟨S1x32x2x4096x1, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_2 : Ref sig .tc := ⟨.hbm, 68, rfl⟩
abbrev main_v43 : Ref sig .tc := ⟨.hbm, 69, rfl⟩
abbrev main_v44 : Ref sig .tc := ⟨.hbm, 70, rfl⟩
abbrev main_c_3 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_4 : Ref sig .tc := ⟨.hbm, 79, rfl⟩
abbrev main_v52 : Ref sig .tc := ⟨.hbm, 80, rfl⟩
abbrev main_v53 : Ref sig .tc := ⟨.hbm, 81, rfl⟩
abbrev main_c_5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_6 : Ref sig .tc := ⟨.hbm, 88, rfl⟩
abbrev main_v59 : Ref sig .tc := ⟨.hbm, 89, rfl⟩
abbrev main_v60 : Ref sig .tc := ⟨.hbm, 90, rfl⟩
abbrev main_c_7 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_8 : Ref sig .tc := ⟨.hbm, 97, rfl⟩
abbrev main_v66 : Ref sig .tc := ⟨.hbm, 98, rfl⟩
abbrev main_v67 : Ref sig .tc := ⟨.hbm, 99, rfl⟩
abbrev main_c_9 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_10 : Ref sig .tc := ⟨.hbm, 106, rfl⟩
abbrev main_v73 : Ref sig .tc := ⟨.hbm, 107, rfl⟩
abbrev main_v74 : Ref sig .tc := ⟨.hbm, 108, rfl⟩
abbrev main_c_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Proof.Spec.lean ====
/- The mathematics of the quantiser, over the extended reals: the vocabulary in which the kernel and the reference
   are both read. A row is a function on 128 places; `rot` is the rotation matrix and `bnd` the 15 boundaries. -/
module

public import Idealize.ShloMosaic.Lib.Pointwise

@[expose] public section

noncomputable section

namespace Cert.Spec

open Idealize.ShloMosaic

/-- The number the norm is raised by before it divides: the bf16 constant nearest `1e-10`. -/
def eps : EReal := Ideal.ofBits .bf16 0x2EDC#16

/-- The Euclidean norm of a row. -/
def norm (x : Fin 128 → EReal) : EReal := Ideal.sqrt (∑ k, x k * x k)

/-- Coordinate `j` of the row divided by its norm (raised by `eps`) and rotated. -/
def rotated (x : Fin 128 → EReal) (rot : Fin 128 → Fin 128 → EReal) (j : Fin 128) : EReal :=
  ∑ k, Ideal.div (x k) (norm x + eps) * rot k j

/-- How many boundaries lie below a value. -/
def level (bnd : Fin 15 → EReal) (v : EReal) : ℕ := ∑ i, if bnd i < v then 1 else 0

/-- The byte of two values: the level of the first in the high half, of the second in the low half. -/
def byte (bnd : Fin 15 → EReal) (hi lo : EReal) : BitVec 8 := BitVec.ofNat 8 (16 * level bnd hi + level bnd lo)

/-- The even place `2 q` and the odd place `2 q + 1` of a row, for `q` below 64. -/
def even (q : Fin 64) : Fin 128 := ⟨2 * q.val, by omega⟩
def odd (q : Fin 64) : Fin 128 := ⟨2 * q.val + 1, by omega⟩

/-- Byte `q` of a quantised row: the levels of the rotated coordinates `2 q` and `2 q + 1`. -/
def code (bnd : Fin 15 → EReal) (rot : Fin 128 → Fin 128 → EReal) (x : Fin 128 → EReal) (q : Fin 64) : BitVec 8 :=
  byte bnd (rotated x rot (even q)) (rotated x rot (odd q))

/-- A level is at most 15: there are 15 boundaries. -/
theorem level_le (bnd : Fin 15 → EReal) (v : EReal) : level bnd v ≤ 15 := by
  unfold level
  calc _ ≤ ∑ _i : Fin 15, 1 := Finset.sum_le_sum fun i _ => by split <;> omega
    _ = 15 := by simp

end Cert.Spec

end
-- ==== Proof.Count.lean ====
/- The kernel's counter: two levels are counted at once, in the two halves of one 32-bit word, and the word is then
   squeezed into a byte. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.Count

open Cert.KernelIdeal Cert.KernelIdeal.Gen Idealize.ShloMosaic Cert.Spec

/-- One boundary's contribution to the word: bit 16 tells whether the first value is above the boundary, bit 0 whether
    the second is. -/
def tick (b e o : EReal) : BitVec 32 := BitVec.ofNat 32 (65536 * (if b < e then 1 else 0) + if b < o then 1 else 0)

/-- The kernel makes that word from two comparisons by setting bits 31 and 15, shifting by 15 and masking. -/
theorem tick_eq (b e o : EReal) :
    IntOp.andi (IntOp.shrui .vector (IntOp.ori (if b < e then 2147483648#32 else 0#32)
      (if b < o then 32768#32 else 0#32)) 15#32) 65537#32 = tick b e o := by
  unfold tick
  split <;> split <;> decide

/-- Two words of that kind add half by half. -/
theorem add_halves (n k n' k' : ℕ) :
    IntOp.addi (BitVec.ofNat 32 (65536 * n + k)) (BitVec.ofNat 32 (65536 * n' + k')) =
      BitVec.ofNat 32 (65536 * (n + n') + (k + k')) := by
  rw [show 65536 * (n + n') + (k + k') = (65536 * n + k) + (65536 * n' + k') by ring]
  exact (BitVec.ofNat_add _ _).symm

/-- A word that holds two levels, each at most 15, sixteen bits apart, squeezed into a byte. -/
theorem squeeze (n k : ℕ) (hn : n ≤ 15) (hk : k ≤ 15) :
    BitVec.setWidth 8 (IntOp.ori (IntOp.andi (IntOp.shrui .vector (BitVec.ofNat 32 (65536 * n + k)) 12#32) 240#32)
      (IntOp.andi (BitVec.ofNat 32 (65536 * n + k)) 15#32)) = BitVec.ofNat 8 (16 * n + k) := by
  have h : ∀ n k : Fin 16, BitVec.setWidth 8 (IntOp.ori
      (IntOp.andi (IntOp.shrui .vector (BitVec.ofNat 32 (65536 * n.val + k.val)) 12#32) 240#32)
      (IntOp.andi (BitVec.ofNat 32 (65536 * n.val + k.val)) 15#32)) = BitVec.ofNat 8 (16 * n.val + k.val) := by
    decide +kernel
  exact h ⟨n, by omega⟩ ⟨k, by omega⟩

/-- A level, its fifteen comparisons written out in the order the kernel adds them. -/
theorem level_steps (b : Fin 15 → EReal) (v : EReal) : (((((((((((((((0 +
      (if b 0 < v then 1 else 0)) +
      (if b 1 < v then 1 else 0)) +
      (if b 2 < v then 1 else 0)) +
      (if b 3 < v then 1 else 0)) +
      (if b 4 < v then 1 else 0)) +
      (if b 5 < v then 1 else 0)) +
      (if b 6 < v then 1 else 0)) +
      (if b 7 < v then 1 else 0)) +
      (if b 8 < v then 1 else 0)) +
      (if b 9 < v then 1 else 0)) +
      (if b 10 < v then 1 else 0)) +
      (if b 11 < v then 1 else 0)) +
      (if b 12 < v then 1 else 0)) +
      (if b 13 < v then 1 else 0)) +
      (if b 14 < v then 1 else 0)) = level b v := by
  unfold level
  simp only [Fin.sum_univ_castSucc, Finset.univ_eq_empty, Finset.sum_empty]
  rfl

/-- The bytes the kernel makes of the rotated values `E` (even places) and `O` (odd places) against 15 boundaries. -/
def bytes (b : Fin 15 → EReal) (E O : FVec Ideal S1024x128 .f32) : IVec S1024x128 8 :=
  let w2 := k0_pay14 E O k0_pay12 (b 0) (cmpf .ogt E (broadcast S1024x128 (b 0))) 2147483648#32 0#32 (b 1)
  let w5 := k0_pay16 E O w2 (k0_pay15 E O (b 2)) 15#32 (b 3) (b 4)
  let w7 := k0_pay18 E O w5 (b 5) (k0_pay17 E (b 5)) 2147483648#32 0#32 (b 6)
  let w10 := k0_pay20 E O w7 (k0_pay19 E O (b 7)) 15#32 (b 8) (b 9)
  let w12 := k0_pay22 E O w10 (b 10) (k0_pay21 E (b 10)) 2147483648#32 0#32 (b 11)
  k0_pay26 (k0_pay24 E O w12 (k0_pay23 E O (b 12)) 15#32 (b 13) (b 14))
    (k0_pay25 E O w12 (k0_pay23 E O (b 12)) 15#32 (b 13) (b 14))

/-- Each of them is the byte of the two values at its place. -/
theorem bytes_apply (b : Fin 15 → EReal) (E O : FVec Ideal S1024x128 .f32) (j : S1024x128.Idx) :
    bytes b E O j = byte b (E j) (O j) := by
  unfold bytes
  pointwise [k0_pay12, k0_pay14, k0_pay15, k0_pay16, k0_pay17, k0_pay18, k0_pay19, k0_pay20, k0_pay21, k0_pay22, k0_pay23, k0_pay24, k0_pay25, k0_pay26]
  simp only [tick_eq]
  have z : (0#32 : BitVec 32) = BitVec.ofNat 32 (65536 * 0 + 0) := rfl
  rw [z]
  unfold tick
  simp only [add_halves]
  rw [level_steps, level_steps, squeeze _ _ (level_le _ _) (level_le _ _)]
  rfl

end Cert.Count

end
-- ==== Proof.Payload.lean ====
/- What the kernel's two matrix products leave, place by place, for any operands: the norms of 1024 key rows and 1024
   value rows, and the rows divided by their norms and rotated, the even places in the first 128 columns and the odd
   places in the last 128. -/
module

public import proofs.«01_k».proof.Proof.Count
public import proofs.«01_k».proof.Proof.Gen.KernelIdeal.Frame
public import Idealize.ShloMosaic.Lib.Pipeline.ValueKit

@[expose] public section

set_option maxRecDepth 16384

noncomputable section

namespace Cert.Payload

open Cert.KernelIdeal Cert.KernelIdeal.Gen Idealize.ShloMosaic Cert.Spec

/-- Row `a` of a block. -/
def row (v : FVec Ideal S1x1x1024x128 .f32) (a : Fin 1024) : Fin 128 → EReal := fun x => v (ix4 0 0 a x)

/-- The two-column table of ones: column 0 sums the first 128 places, column 1 the last 128. -/
def IsOnes (w : FVec Ideal S256x2 .bf16) : Prop := ∀ (a : Fin 256) (s : Fin 2),
  w (ix2 a s) = if a.val / 128 = s.val then (1 : EReal) else 0

/-- The 256 by 256 table made of the matrix `rot`: a key row meets its even columns at 0–63 and its odd columns at
    128–191; a value row meets them at 64–127 and at 192–255. -/
def IsTable (rot : Fin 128 → Fin 128 → EReal) (w : FVec Ideal S256x256 .bf16) : Prop :=
  (∀ (k : Fin 128) (j : Fin 256), w (ix2 ⟨k.val, by omega⟩ j) =
    if h : j.val % 128 < 64 then rot k ⟨2 * (j.val % 128) + j.val / 128, by omega⟩ else 0) ∧
  (∀ (k : Fin 128) (j : Fin 256), w (ix2 ⟨128 + k.val, by omega⟩ j) =
    if h : 64 ≤ j.val % 128 then rot k ⟨2 * (j.val % 128 - 64) + j.val / 128, by omega⟩ else 0)

variable {v0 v3 : FVec Ideal S1x1x1024x128 .f32} {v9 : FVec Ideal S256x2 .bf16} {v30 : FVec Ideal S256x256 .bf16}
  {rot : Fin 128 → Fin 128 → EReal}

/-- A sum over a row times ones is the sum; times zeros, zero. -/
theorem sum_ones (h9 : IsOnes v9) (f : Fin 128 → EReal) (s : Fin 2) :
    (∑ x : Fin 128, f x * (v9 (ix2 ⟨x.val, by omega⟩ s) : EReal) = if s.val = 0 then ∑ x, f x else 0) ∧
    (∑ x : Fin 128, f x * (v9 (ix2 ⟨128 + x.val, by omega⟩ s) : EReal) = if s.val = 0 then 0 else ∑ x, f x) := by
  have hs : s.val < 2 := s.isLt
  constructor
  · by_cases h : s.val = 0
    · rw [if_pos h]
      refine Finset.sum_congr rfl fun x _ => ?_
      rw [h9, if_pos (by simp only; omega), mul_one]
    · rw [if_neg h]
      refine Finset.sum_eq_zero fun x _ => ?_
      rw [h9, if_neg (by simp only; omega), mul_zero]
  · by_cases h : s.val = 0
    · rw [if_pos h]
      refine Finset.sum_eq_zero fun x _ => ?_
      rw [h9, if_neg (by simp only; omega), mul_zero]
    · rw [if_neg h]
      refine Finset.sum_congr rfl fun x _ => ?_
      rw [h9, if_pos (by simp only; omega), mul_one]

/-- Column 0 of the first product's root: the norm of the key row. -/
theorem norm_key (h9 : IsOnes v9) (a : Fin 1024) : k0_pay6 (F := Ideal) v0 v3 v9 (ix2 a 0) = norm (row v0 a) := by
  pointwise [k0_pay6, k0_pay4, k0_pay5]
  rw [(sum_ones h9 _ 0).1, (sum_ones h9 _ 0).2, if_pos (show (0 : Fin 2).val = 0 from rfl),
    if_pos (show (0 : Fin 2).val = 0 from rfl), add_zero]
  rfl

/-- Column 1: the norm of the value row. -/
theorem norm_value (h9 : IsOnes v9) (a : Fin 1024) : k0_pay6 (F := Ideal) v0 v3 v9 (ix2 a 1) = norm (row v3 a) := by
  pointwise [k0_pay6, k0_pay4, k0_pay5]
  rw [(sum_ones h9 _ 1).1, (sum_ones h9 _ 1).2, if_neg (by decide), if_neg (by decide), zero_add]
  rfl

/-- The second product at a column that holds a column of `rot` for key rows. -/
theorem rotated_key (h9 : IsOnes v9) (h30 : IsTable rot v30) (a : Fin 1024) (j : Fin 256) (h : j.val % 128 < 64) :
    k0_pay9 (F := Ideal) v0 v3 v9 v30 (ix2 a j) =
      rotated (row v0 a) rot ⟨2 * (j.val % 128) + j.val / 128, by omega⟩ := by
  pointwise [k0_pay9, k0_pay4, k0_pay5]
  rw [norm_key h9, norm_value h9]
  simp only [h30.1, h30.2, dif_pos h, dif_neg (show ¬ 64 ≤ j.val % 128 by omega), mul_zero, Finset.sum_const_zero,
    add_zero]
  rfl

/-- The second product at a column that holds a column of `rot` for value rows. -/
theorem rotated_value (h9 : IsOnes v9) (h30 : IsTable rot v30) (a : Fin 1024) (j : Fin 256) (h : 64 ≤ j.val % 128) :
    k0_pay9 (F := Ideal) v0 v3 v9 v30 (ix2 a j) =
      rotated (row v3 a) rot ⟨2 * (j.val % 128 - 64) + j.val / 128, by omega⟩ := by
  pointwise [k0_pay9, k0_pay4, k0_pay5]
  rw [norm_key h9, norm_value h9]
  simp only [h30.1, h30.2, dif_pos h, dif_neg (show ¬ j.val % 128 < 64 by omega), mul_zero, Finset.sum_const_zero,
    zero_add]
  rfl

/-- The even places: the first 128 columns. -/
theorem evens (a : Fin 1024) (j : Fin 128) :
    k0_pay10 (F := Ideal) v0 v3 v9 v30 (ix2 a j) = k0_pay9 (F := Ideal) v0 v3 v9 v30 (ix2 a ⟨j.val, by omega⟩) := by
  pointwise [k0_pay10]

/-- The odd places: the last 128 columns. -/
theorem odds (a : Fin 1024) (j : Fin 128) : k0_pay11 (F := Ideal) v0 v3 v9 v30 (ix2 a j) =
    k0_pay9 (F := Ideal) v0 v3 v9 v30 (ix2 a ⟨128 + j.val, by omega⟩) := by
  pointwise [k0_pay11]

/-- The bytes of a key row are bytes 0–63 of the block's row. -/
theorem bytes_key (b : Fin 15 → EReal) (h9 : IsOnes v9) (h30 : IsTable rot v30) (a : Fin 1024) (q : Fin 64) :
    Count.bytes b (k0_pay10 v0 v3 v9 v30) (k0_pay11 v0 v3 v9 v30) (ix2 a ⟨q.val, by omega⟩) =
      code b rot (row v0 a) q := by
  rw [Count.bytes_apply, evens, odds, rotated_key h9 h30 _ _ (by simp only; omega),
    rotated_key h9 h30 _ _ (by simp only; omega)]
  unfold code even odd
  congr 2 <;> exact Fin.ext (by simp only; omega)

/-- The bytes of a value row are bytes 64–127. -/
theorem bytes_value (b : Fin 15 → EReal) (h9 : IsOnes v9) (h30 : IsTable rot v30) (a : Fin 1024) (q : Fin 64) :
    Count.bytes b (k0_pay10 v0 v3 v9 v30) (k0_pay11 v0 v3 v9 v30) (ix2 a ⟨64 + q.val, by omega⟩) =
      code b rot (row v3 a) q := by
  rw [Count.bytes_apply, evens, odds, rotated_value h9 h30 _ _ (by simp only; omega),
    rotated_value h9 h30 _ _ (by simp only; omega)]
  unfold code even odd
  congr 2 <;> exact Fin.ext (by simp only; omega)

/-- The two stores of bytes hold the two halves of the block of bytes. -/
theorem store_key (p q : IVec S1024x128 32) (x : S1x1x1x1024x64.Idx) (a : Fin 1024) (l : Fin 64)
    (ha : (x 3).val = a.val) (hl : (x 4).val = l.val) :
    k0_pay27 p q x = k0_pay26 p q (ix2 a ⟨l.val, by omega⟩) := by
  pointwise [k0_pay27]
  blk_ext

theorem store_value (p q : IVec S1024x128 32) (x : S1x1x1x1024x64.Idx) (a : Fin 1024) (l : Fin 64)
    (ha : (x 3).val = a.val) (hl : (x 4).val = l.val) :
    k0_pay29 p q x = k0_pay26 p q (ix2 a ⟨64 + l.val, by omega⟩) := by
  pointwise [k0_pay29]
  blk_ext

/-- The store of key norms. -/
theorem store_norm_key (h9 : IsOnes v9) (x : S1x1x1x1024x1.Idx) (a : Fin 1024) (ha : (x 3).val = a.val) :
    k0_pay28 (F := Ideal) (k0_pay7 v0 v3 v9) x = norm (row v0 a) := by
  refine Eq.trans ?_ (norm_key (v3 := v3) h9 a)
  pointwise [k0_pay28, k0_pay7]
  blk_ext

/-- The store of value norms. -/
theorem store_norm_value (h9 : IsOnes v9) (x : S1x1x1x1024x1.Idx) (a : Fin 1024) (ha : (x 3).val = a.val) :
    k0_pay30 (F := Ideal) (k0_pay8 v0 v3 v9) x = norm (row v3 a) := by
  refine Eq.trans ?_ (norm_value (v0 := v0) h9 a)
  pointwise [k0_pay30, k0_pay8]
  blk_ext

end Cert.Payload

end
-- ==== Proof.Host.lean ====
/- The operands that the kernel's own host lines prepare, read at an index: the boundaries, the two-column table of ones
   that sums squares, and the 256 by 256 table that rotates a key row and a value row at once and puts the even places
   first. -/
module

public import proofs.«01_k».proof.Proof.Spec
public import proofs.«01_k».proof.Proof.Gen.KernelIdeal.Frame
public import Idealize.ShloMosaic.Lib.Claim
public import Idealize.ShloMosaic.Lib.StableHlo.ReadAt
public import Idealize.ShloMosaic.Lib.Pipeline.ValueKit

@[expose] public section

set_option maxRecDepth 16384

noncomputable section

namespace Cert.Host

open Cert.KernelIdeal Cert.KernelIdeal.Gen Idealize.ShloMosaic Idealize.ShloMosaic.TcCoe Idealize.SL.Sem

variable (m : (ℓ : Loc nD τ sig) → Buf (Elt Ideal) ℓ)

/-- The boundaries in the launch memory `m` of device `c`. -/
def bnd (c : Dev nD) (i : Fin 15) : EReal := m (c, Proc.tc.devRef main_arg3) (ix1 i)

/-- The rotation matrix there. -/
def rot (c : Dev nD) (k j : Fin 128) : EReal := m (c, Proc.tc.devRef main_arg4) (ix2 k j)

/-- The boundaries reach the kernel unchanged. -/
theorem bnd_eq (c : Dev nD) (i : Fin 15) : V m c main_v11 (ix1 i) = bnd m c i := by
  unfold V
  after_reads_at
  rfl

/-- The table of ones: column 0 sums the first 128 places, column 1 the last 128. -/
theorem ones_eq (c : Dev nD) (a : Fin 256) (s : Fin 2) :
    V m c main_v10 (ix2 a s) = if a.val / 128 = s.val then (1 : EReal) else 0 := by
  unfold V
  after_reads_at
  have hs : s.val < 2 := s.isLt
  have ha : a.val < 256 := a.isLt
  split <;> split <;> after_reads_at <;> split <;> first | rfl | omega

/-- The first 128 rows of the rotation table: they meet the key row, and only columns 0–63 and 128–191 of them are not
    zero, the even and the odd columns of the rotation matrix. -/
theorem table_top (c : Dev nD) (k : Fin 128) (j : Fin 256) :
    V m c main_v5 (ix2 ⟨k.val, by omega⟩ j) =
      if h : j.val % 128 < 64 then rot m c k ⟨2 * (j.val % 128) + j.val / 128, by omega⟩ else 0 := by
  unfold V
  after_reads_at
  have hj : j.val < 256 := j.isLt
  have hk : k.val < 128 := k.isLt
  split_ifs <;> after_reads_at <;> first | omega | rw [dif_neg (by omega)] |
    (rw [dif_pos (by omega)]
     exact congrArg (fun i => m (c, Proc.tc.devRef main_arg4) (ix2 k i)) (Fin.ext (by simp only; omega)))

/-- The last 128 rows: they meet the value row, and only columns 64–127 and 192–255 of them are not zero. -/
theorem table_bot (c : Dev nD) (k : Fin 128) (j : Fin 256) :
    V m c main_v5 (ix2 ⟨128 + k.val, by omega⟩ j) =
      if h : 64 ≤ j.val % 128 then rot m c k ⟨2 * (j.val % 128 - 64) + j.val / 128, by omega⟩ else 0 := by
  unfold V
  after_reads_at
  have hj : j.val < 256 := j.isLt
  have hk : k.val < 128 := k.isLt
  split_ifs <;> after_reads_at <;> first | omega | rw [dif_neg (by omega)] |
    (rw [dif_pos (by omega)]
     exact congrArg (fun i => m (c, Proc.tc.devRef main_arg4) (ix2 k i)) (Fin.ext (by simp only; omega)))

end Cert.Host

end
-- ==== Proof.Block.lean ====
/- What one grid point computes: the four blocks it writes, read at an index. -/
module

public import proofs.«01_k».proof.Proof.Payload
public import proofs.«01_k».proof.Proof.Host

@[expose] public section

set_option maxRecDepth 16384

noncomputable section

namespace Cert.Block

open Cert.KernelIdeal Cert.KernelIdeal.Gen Idealize.ShloMosaic Idealize.ShloMosaic.TcCoe Idealize.SL.Sem
open Cert.Spec Cert.Host Cert.Payload

variable (m : (ℓ : Loc nD τ sig) → Buf (Elt Ideal) ℓ)

/-- Which block each window holds at point `t`: head `t / 4`, tile `t % 4` of the tokens; the tables are whole. -/
theorem index_facts : ∀ t : Fin cfg0.N, win0_0.index t = ![0] ∧ win0_3.index t = ![0, 0] ∧ win0_4.index t = ![0, 0] ∧
    win0_1.index t = ![0, t.val / 4, t.val % 4, 0] ∧ win0_2.index t = ![0, t.val / 4, t.val % 4, 0] ∧
    win0_5.index t = ![0, t.val / 4, 0, t.val % 4, 0] ∧ win0_6.index t = ![0, t.val / 4, 0, t.val % 4, 0] ∧
    win0_7.index t = ![0, t.val / 4, 0, t.val % 4, 0] ∧ win0_8.index t = ![0, t.val / 4, 0, t.val % 4, 0] :=
  (by decide +kernel : ∀ t : Fin grid0.N, _)

/-- The block of ones at a grid point is the table of ones. -/
theorem ones_blk (c : Dev nD) (t : Fin cfg0.N) : IsOnes (iblk m c 4 t) := by
  intro a s
  rw [← ones_eq m c a s]
  blk_ext [iblk, index_facts t]

/-- The block of the rotation table is the rotation table. -/
theorem table_blk (c : Dev nD) (t : Fin cfg0.N) : IsTable (rot m c) (iblk m c 3 t) := by
  constructor
  · intro k j
    rw [← table_top m c k j]
    blk_ext [iblk, index_facts t]
  · intro k j
    rw [← table_bot m c k j]
    blk_ext [iblk, index_facts t]

/-- The boundaries at a grid point. -/
theorem bnd_blk (c : Dev nD) (t : Fin cfg0.N) (i : Fin 15) : iblk m c 0 t (ix1 i) = bnd m c i := by
  rw [← bnd_eq m c i]
  blk_ext [iblk, index_facts t]

/-- One scalar load reads one boundary. -/
theorem ld_bnd (c : Dev nD) (t : Fin cfg0.N) (n : ℕ) (hn : n < 15)
    (inb : ∀ a, (![n] : Fin 1 → ℕ) a + S1.size a ≤ S15.size a) (h : 0 < S1.numel) :
    View.ld (iblk m c 0 t) (Rect.unit (s := S15) ![n] S1.size inb) (Shape.Idx.first h) = bnd m c ⟨n, hn⟩ :=
  Eq.trans (congrArg (iblk m c 0 t) (funext fun a => Fin.ext (by
    have ha : a = (0 : Fin 1) := Subsingleton.elim (α := Fin 1) _ _
    subst ha
    rfl))) (bnd_blk m c t ⟨n, hn⟩)

/-- The codes of the keys that point `t` writes: slot 0 holds them, slot 1 is zero. -/
theorem out5 (c : Dev nD) (t : Fin cfg0.N) (y) (a : Fin 1024) (l : Fin 64)
    (ha : (y 3).val = a.val) (hl : (y 4).val = l.val) : (outsAt0 m c t).1 y =
    if (y 2).val = 0 then code (bnd m c) (rot m c) (row (iblk m c 1 t) a) l else 0#8 := by
  unfold outsAt0
  dsimp only
  frame_out
  canon_tiles x h
  · rw [if_neg (by omega)]
    pointwise [k0_pay31]
  · rw [if_pos (by omega), store_key _ _ x a l (h3 ▸ ha) (h4 ▸ hl)]
    rw [ld_bnd m c t 0 (by decide), ld_bnd m c t 1 (by decide), ld_bnd m c t 2 (by decide),
      ld_bnd m c t 3 (by decide), ld_bnd m c t 4 (by decide), ld_bnd m c t 5 (by decide),
      ld_bnd m c t 6 (by decide), ld_bnd m c t 7 (by decide), ld_bnd m c t 8 (by decide),
      ld_bnd m c t 9 (by decide), ld_bnd m c t 10 (by decide), ld_bnd m c t 11 (by decide),
      ld_bnd m c t 12 (by decide), ld_bnd m c t 13 (by decide), ld_bnd m c t 14 (by decide)]
    exact bytes_key (bnd m c) (ones_blk m c t) (table_blk m c t) a l

/-- The norms of the keys that point `t` writes: slot 0 holds them, slot 1 is zero. -/
theorem out6 (c : Dev nD) (t : Fin cfg0.N) (y) (a : Fin 1024) (ha : (y 3).val = a.val) : (outsAt0 m c t).2.1 y =
    (if (y 2).val = 0 then norm (row (iblk m c 1 t) a) else 0 : EReal) := by
  unfold outsAt0
  dsimp only
  frame_out
  canon_tiles x h
  · rw [if_neg (by omega)]
    pointwise [k0_pay1, k0_pay32]
  · rw [if_pos (by omega)]
    exact store_norm_key (ones_blk m c t) x a (h3 ▸ ha)

/-- The codes of the values that point `t` writes: slot 0 holds them, slot 1 is zero. -/
theorem out7 (c : Dev nD) (t : Fin cfg0.N) (y) (a : Fin 1024) (l : Fin 64)
    (ha : (y 3).val = a.val) (hl : (y 4).val = l.val) : (outsAt0 m c t).2.2.1 y =
    if (y 2).val = 0 then code (bnd m c) (rot m c) (row (iblk m c 2 t) a) l else 0#8 := by
  unfold outsAt0
  dsimp only
  frame_out
  canon_tiles x h
  · rw [if_neg (by omega)]
    pointwise [k0_pay2]
  · rw [if_pos (by omega), store_value _ _ x a l (h3 ▸ ha) (h4 ▸ hl)]
    rw [ld_bnd m c t 0 (by decide), ld_bnd m c t 1 (by decide), ld_bnd m c t 2 (by decide),
      ld_bnd m c t 3 (by decide), ld_bnd m c t 4 (by decide), ld_bnd m c t 5 (by decide),
      ld_bnd m c t 6 (by decide), ld_bnd m c t 7 (by decide), ld_bnd m c t 8 (by decide),
      ld_bnd m c t 9 (by decide), ld_bnd m c t 10 (by decide), ld_bnd m c t 11 (by decide),
      ld_bnd m c t 12 (by decide), ld_bnd m c t 13 (by decide), ld_bnd m c t 14 (by decide)]
    exact bytes_value (bnd m c) (ones_blk m c t) (table_blk m c t) a l

/-- The norms of the values that point `t` writes: slot 0 holds them, slot 1 is zero. -/
theorem out8 (c : Dev nD) (t : Fin cfg0.N) (y) (a : Fin 1024) (ha : (y 3).val = a.val) : (outsAt0 m c t).2.2.2 y =
    (if (y 2).val = 0 then norm (row (iblk m c 2 t) a) else 0 : EReal) := by
  unfold outsAt0
  dsimp only
  frame_out
  canon_tiles x h
  · rw [if_neg (by omega)]
    pointwise [k0_pay3, k0_pay32]
  · rw [if_pos (by omega)]
    exact store_norm_value (ones_blk m c t) x a (h3 ▸ ha)

end Cert.Block

end
-- ==== Proof.Arrays.lean ====
/- The four arrays the kernel leaves: the blocks of all grid points put together. -/
module

public import proofs.«01_k».proof.Proof.Block

@[expose] public section

set_option maxRecDepth 16384

noncomputable section

namespace Cert.Arrays

open Cert.KernelIdeal Cert.KernelIdeal.Gen Idealize.ShloMosaic Idealize.ShloMosaic.TcCoe Idealize.SL.Sem
open Cert.Spec Cert.Host Cert.Payload Cert.Block

variable (m : (ℓ : Loc nD τ sig) → Buf (Elt Ideal) ℓ)

/-- The key row of head `h` and token `s` in the launch memory. -/
def keyRow (c : Dev nD) (h : Fin 32) (s : Fin 4096) : Fin 128 → EReal :=
  fun x => m (c, Proc.tc.devRef main_arg1) (ix4 0 h s x)

/-- The value row. -/
def valueRow (c : Dev nD) (h : Fin 32) (s : Fin 4096) : Fin 128 → EReal :=
  fun x => m (c, Proc.tc.devRef main_arg2) (ix4 0 h s x)

/-- A point's number is below 128. -/
theorem point_lt (t : Fin cfg0.N) : t.val < 128 := lt_of_lt_of_eq t.isLt (by decide)

/-- Row `a` of the key block at point `t`: head `t / 4`, token `1024 (t % 4) + a`. -/
theorem row_key (c : Dev nD) (t : Fin cfg0.N) (a : Fin 1024) : row (iblk m c 1 t) a =
    keyRow m c ⟨t.val / 4, by have := point_lt t; omega⟩ ⟨t.val % 4 * 1024 + a.val, by omega⟩ := by
  funext x
  unfold row keyRow
  blk_ext [iblk, V, index_facts t]

/-- Row `a` of the value block. -/
theorem row_value (c : Dev nD) (t : Fin cfg0.N) (a : Fin 1024) : row (iblk m c 2 t) a =
    valueRow m c ⟨t.val / 4, by have := point_lt t; omega⟩ ⟨t.val % 4 * 1024 + a.val, by omega⟩ := by
  funext x
  unfold row valueRow
  blk_ext [iblk, V, index_facts t]

/-- The array of codes of the keys: slot 0 holds them, slot 1 is zero. -/
def codesKey (c : Dev nD) : IVec S1x32x2x4096x64 8 := fun i =>
  if (i 2).val = 0 then code (bnd m c) (rot m c) (keyRow m c (i 1) (i 3)) (i 4) else 0#8

/-- That array at an index whose coordinates are known. -/
theorem codesKey_at (c : Dev nD) (i : S1x32x2x4096x64.Idx) (h : Fin 32) (s : Fin 4096) (l : Fin 64) (h1 : (i 1).val = h.val)
    (h3 : (i 3).val = s.val) (h4 : (i 4).val = l.val) :
    codesKey m c i = if (i 2).val = 0 then code (bnd m c) (rot m c) (keyRow m c h s) l else 0#8 := by
  obtain rfl : i 1 = h := Fin.ext h1
  obtain rfl : i 3 = s := Fin.ext h3
  obtain rfl : i 4 = l := Fin.ext h4
  rfl

/-- After the run the kernel's output 0 is that array. -/
theorem final5 (c : Dev nD) : (dats m 0 c).arrAt 5 cfg0.N = codesKey m c := by
  refine (dats m 0 c).arrAt_eq_of_covers 5 _ (by decide +kernel) fun t hf y => ?_
  blk_simp
  rw [after0_5]
  have y3 : (y 3).val < 1024 := (y 3).isLt
  have ht := point_lt t
  refine (out5 m c t _ ⟨(y 3).val, (y 3).isLt⟩ ⟨(y 4).val, (y 4).isLt⟩ rfl rfl).trans ?_
  rw [row_key m c t]
  refine Eq.symm ((codesKey_at m c _ ⟨t.val / 4, by omega⟩ ⟨t.val % 4 * 1024 + (y 3).val, by omega⟩ ⟨(y 4).val, (y 4).isLt⟩ ?_ ?_ ?_).trans ?_)
  on_goal 4 => refine if_congr (Iff.of_eq (congrArg (· = 0) ?_)) rfl rfl
  all_goals blk_simp [index_facts t]

/-- The array of norms of the keys: slot 0 holds them, slot 1 is zero. -/
def normsKey (c : Dev nD) : S1x32x2x4096x1.Idx → EReal := fun i =>
  if (i 2).val = 0 then norm (keyRow m c (i 1) (i 3)) else (0 : EReal)

/-- That array at an index whose coordinates are known. -/
theorem normsKey_at (c : Dev nD) (i : S1x32x2x4096x1.Idx) (h : Fin 32) (s : Fin 4096) (h1 : (i 1).val = h.val)
    (h3 : (i 3).val = s.val) :
    normsKey m c i = if (i 2).val = 0 then norm (keyRow m c h s) else (0 : EReal) := by
  obtain rfl : i 1 = h := Fin.ext h1
  obtain rfl : i 3 = s := Fin.ext h3
  rfl

/-- After the run the kernel's output 1 is that array. -/
theorem final6 (c : Dev nD) : (dats m 0 c).arrAt 6 cfg0.N = normsKey m c := by
  refine (dats m 0 c).arrAt_eq_of_covers 6 _ (by decide +kernel) fun t hf y => ?_
  blk_simp
  rw [after0_6]
  have y3 : (y 3).val < 1024 := (y 3).isLt
  have ht := point_lt t
  refine (out6 m c t _ ⟨(y 3).val, (y 3).isLt⟩ rfl).trans ?_
  rw [row_key m c t]
  refine Eq.symm ((normsKey_at m c _ ⟨t.val / 4, by omega⟩ ⟨t.val % 4 * 1024 + (y 3).val, by omega⟩ ?_ ?_).trans ?_)
  on_goal 3 => refine if_congr (Iff.of_eq (congrArg (· = 0) ?_)) rfl rfl
  all_goals blk_simp [index_facts t]

/-- The array of codes of the values: slot 0 holds them, slot 1 is zero. -/
def codesValue (c : Dev nD) : IVec S1x32x2x4096x64 8 := fun i =>
  if (i 2).val = 0 then code (bnd m c) (rot m c) (valueRow m c (i 1) (i 3)) (i 4) else 0#8

/-- That array at an index whose coordinates are known. -/
theorem codesValue_at (c : Dev nD) (i : S1x32x2x4096x64.Idx) (h : Fin 32) (s : Fin 4096) (l : Fin 64) (h1 : (i 1).val = h.val)
    (h3 : (i 3).val = s.val) (h4 : (i 4).val = l.val) :
    codesValue m c i = if (i 2).val = 0 then code (bnd m c) (rot m c) (valueRow m c h s) l else 0#8 := by
  obtain rfl : i 1 = h := Fin.ext h1
  obtain rfl : i 3 = s := Fin.ext h3
  obtain rfl : i 4 = l := Fin.ext h4
  rfl

/-- After the run the kernel's output 2 is that array. -/
theorem final7 (c : Dev nD) : (dats m 0 c).arrAt 7 cfg0.N = codesValue m c := by
  refine (dats m 0 c).arrAt_eq_of_covers 7 _ (by decide +kernel) fun t hf y => ?_
  blk_simp
  rw [after0_7]
  have y3 : (y 3).val < 1024 := (y 3).isLt
  have ht := point_lt t
  refine (out7 m c t _ ⟨(y 3).val, (y 3).isLt⟩ ⟨(y 4).val, (y 4).isLt⟩ rfl rfl).trans ?_
  rw [row_value m c t]
  refine Eq.symm ((codesValue_at m c _ ⟨t.val / 4, by omega⟩ ⟨t.val % 4 * 1024 + (y 3).val, by omega⟩ ⟨(y 4).val, (y 4).isLt⟩ ?_ ?_ ?_).trans ?_)
  on_goal 4 => refine if_congr (Iff.of_eq (congrArg (· = 0) ?_)) rfl rfl
  all_goals blk_simp [index_facts t]

/-- The array of norms of the values: slot 0 holds them, slot 1 is zero. -/
def normsValue (c : Dev nD) : S1x32x2x4096x1.Idx → EReal := fun i =>
  if (i 2).val = 0 then norm (valueRow m c (i 1) (i 3)) else (0 : EReal)

/-- That array at an index whose coordinates are known. -/
theorem normsValue_at (c : Dev nD) (i : S1x32x2x4096x1.Idx) (h : Fin 32) (s : Fin 4096) (h1 : (i 1).val = h.val)
    (h3 : (i 3).val = s.val) :
    normsValue m c i = if (i 2).val = 0 then norm (valueRow m c h s) else (0 : EReal) := by
  obtain rfl : i 1 = h := Fin.ext h1
  obtain rfl : i 3 = s := Fin.ext h3
  rfl

/-- After the run the kernel's output 3 is that array. -/
theorem final8 (c : Dev nD) : (dats m 0 c).arrAt 8 cfg0.N = normsValue m c := by
  refine (dats m 0 c).arrAt_eq_of_covers 8 _ (by decide +kernel) fun t hf y => ?_
  blk_simp
  rw [after0_8]
  have y3 : (y 3).val < 1024 := (y 3).isLt
  have ht := point_lt t
  refine (out8 m c t _ ⟨(y 3).val, (y 3).isLt⟩ rfl).trans ?_
  rw [row_value m c t]
  refine Eq.symm ((normsValue_at m c _ ⟨t.val / 4, by omega⟩ ⟨t.val % 4 * 1024 + (y 3).val, by omega⟩ ?_ ?_).trans ?_)
  on_goal 3 => refine if_congr (Iff.of_eq (congrArg (· = 0) ?_)) rfl rfl
  all_goals blk_simp [index_facts t]

end Cert.Arrays

end
-- ==== Proof.RefRows.lean ====
/- What the reference computes of one row: its norm and its bytes. The reference flattens the heads and the tokens into
   one axis of 131072 rows. -/
module

public import proofs.«01_k».proof.Proof.Spec
public import proofs.«01_k».proof.Proof.Gen.ReferenceIdeal.Read
public import Idealize.ShloMosaic.Lib.Pipeline.ValueKit

@[expose] public section

set_option maxRecDepth 16384

noncomputable section

namespace Cert.RefRows

open Cert.ReferenceIdeal Cert.ReferenceIdeal.Read Idealize.ShloMosaic Cert.Spec

/-- Flat row `r` of an array of keys or values: head `r / 4096`, token `r % 4096`. -/
def flatRow (x : FVec Ideal S1x32x4096x128 .f32) (r : Fin 131072) : Fin 128 → EReal :=
  fun k => x (ix4 0 ⟨r.val / 4096, by omega⟩ ⟨r.val % 4096, by omega⟩ k)

variable (x : FVec Ideal S1x32x4096x128 .f32) (b : FVec Ideal S15 .bf16) (rot : FVec Ideal S128x128 .bf16)

/-- The flattened array, row by row. -/
theorem flat_apply (r : Fin 131072) (k : Fin 128) : val_main_v1 (F := Ideal) x (ix2 r k) = flatRow x r k := by
  rw [val_main_v1_apply, val_main_v0_apply]
  unfold flatRow
  refine congrArg x (funext fun a => Fin.ext ?_)
  have hr : r.val < 131072 := r.isLt
  have hk : k.val < 128 := k.isLt
  match a with
  | ⟨0, _⟩ => rfl
  | ⟨1, _⟩ => show (r.val * 128 + k.val) / 524288 % 32 = r.val / 4096; omega
  | ⟨2, _⟩ => show (r.val * 128 + k.val) / 128 % 4096 = r.val % 4096; omega
  | ⟨3, _⟩ => show (r.val * 128 + k.val) % 128 = k.val; omega

/-- The norms of the rows. -/
theorem norm_apply (r : Fin 131072) (z : Fin 1) : val_main_v2 (F := Ideal) x (ix2 r z) = norm (flatRow x r) := by
  pointwise [val_main_v2, val_main_call0_v4, val_main_call0_v3, val_main_call0_v2, val_main_call0_v1,
    val_main_call0_v0, val_main_call0_cst]
  simp only [flat_apply]
  rfl

/-- The rotated rows. -/
theorem rotated_apply (r : Fin 131072) (j : Fin 128) :
    val_main_v7 (F := Ideal) x rot (ix2 r j) = rotated (flatRow x r) (fun k j => rot (ix2 k j)) j := by
  pointwise [val_main_v7, val_main_v6, val_main_v5, val_main_v4, val_main_v3, val_main_cst]
  simp only [flat_apply, norm_apply]
  rfl

/-- One comparison of one rotated coordinate with one boundary, as a 32-bit word. -/
theorem above_apply (r : Fin 131072) (j : Fin 128) (i : Fin 15) : val_main_v16 (F := Ideal) x b rot (ix3 r j i) =
    BitVec.ofNat 32 (if (b (ix1 i) : EReal) < rotated (flatRow x r) (fun k j => rot (ix2 k j)) j then 1 else 0) := by
  pointwise [val_main_v16, val_main_v15, val_main_v14, val_main_v13, val_main_v12, val_main_v11,
    val_main_v10, val_main_v9, val_main_v8]
  rw [rotated_apply]
  by_cases h : (b (ix1 i) : EReal) < rotated (flatRow x r) (fun k j => rot (ix2 k j)) j
  · rw [if_pos h, decide_eq_true h]
    rfl
  · rw [if_neg h, decide_eq_false h]
    rfl

/-- A sum of words that hold natural numbers holds the sum of the numbers. -/
theorem fold_words {n : ℕ} (f : Fin n → ℕ) (s : Finset (Fin n)) :
    s.fold IntOp.addi 0#32 (fun i => BitVec.ofNat 32 (f i)) = BitVec.ofNat 32 (∑ i ∈ s, f i) := by
  classical
  induction s using Finset.induction_on with
  | empty => rfl
  | insert a s h ih =>
    rw [Finset.fold_insert h, Finset.sum_insert h, ih]
    exact (BitVec.ofNat_add _ _).symm

/-- The level of one rotated coordinate. -/
theorem level_apply (r : Fin 131072) (j : Fin 128) : val_main_v17 (F := Ideal) x b rot (ix2 r j) =
    BitVec.ofNat 32 (level (fun i => b (ix1 i)) (rotated (flatRow x r) (fun k j => rot (ix2 k j)) j)) := by
  unfold val_main_v17
  rw [Host.reduce_eq_fold_single IntOp.addi _ _ Gen.reducesTo_S131072x128x15_S131072x128_d2 (by decide)]
  refine Eq.trans (Finset.fold_congr fun i _ => ?_) (fold_words _ _)
  refine Eq.trans (congrArg (val_main_v16 (F := Ideal) x b rot) ?_) (above_apply x b rot r j i)
  exact funext fun a => Fin.ext (by match a with | ⟨0, _⟩ => rfl | ⟨1, _⟩ => rfl | ⟨2, _⟩ => rfl)

/-- The two levels of a byte put together in 32 bits and cut to 8. -/
theorem pack (n k : ℕ) (hn : n ≤ 15) (hk : k ≤ 15) :
    BitVec.setWidth 8 (IntOp.ori (IntOp.shli .host (BitVec.ofNat 32 n) 4#32) (BitVec.ofNat 32 k)) =
      BitVec.ofNat 8 (16 * n + k) := by
  have h : ∀ n k : Fin 16, BitVec.setWidth 8 (IntOp.ori (IntOp.shli .host (BitVec.ofNat 32 n.val) 4#32)
      (BitVec.ofNat 32 k.val)) = BitVec.ofNat 8 (16 * n.val + k.val) := by
    decide +kernel
  exact h ⟨n, by omega⟩ ⟨k, by omega⟩

/-- The bytes of the rows. -/
theorem code_apply (r : Fin 131072) (q : Fin 64) : val_main_v23 (F := Ideal) x b rot (ix2 r q) =
    code (fun i => b (ix1 i)) (fun k j => rot (ix2 k j)) (flatRow x r) q := by
  pointwise [val_main_v23, val_main_v22, val_main_v21, val_main_v20, val_main_v19, val_main_v18,
    val_main_c_0]
  rw [level_apply, level_apply, pack _ _ (level_le _ _) (level_le _ _)]
  unfold code byte even odd
  rw [show (⟨1 + 2 * q.val, by omega⟩ : Fin 128) = ⟨2 * q.val + 1, by omega⟩ from Fin.ext (Nat.add_comm _ _)]

end Cert.RefRows

end
-- ==== Proof.RefScatter.lean ====
/- Writing 4096 tokens into a cache of 8192 places at the places 0, 1, 2, …, 4095: what each place holds afterwards. -/
module

public import Idealize.ShloMosaic.Lib.Routing.OpsPair
public import Idealize.ShloMosaic.Lib.Routing.OpsSet
public import Idealize.ShloMosaic.Lib.Pipeline.ValueKit

@[expose] public section

set_option maxRecDepth 16384

noncomputable section

namespace Cert.RefScatter

open Idealize.ShloMosaic Idealize.ShloMosaic.Routing

/-- A cache: 32 heads, 8192 places, `n` entries a place. -/
abbrev Cache (n : ℕ) : Shape := ⟨4, ![1, 32, 8192, n]⟩
/-- The table of places, one a token. -/
abbrev Places : Shape := ⟨2, ![4096, 1]⟩
/-- The tokens to write. -/
abbrev Tokens (n : ℕ) : Shape := ⟨4, ![1, 32, 4096, n]⟩

/-- The write's dimension numbers: axis 2 of the cache is the one the table of places names. -/
abbrev dims (n : ℕ) (wf : ScatterDims.WF (Cache n) Places (Tokens n) [0, 1, 3] [2] [2] 1) :
    ScatterDims (Cache n) Places (Tokens n) where
  updateWindowDims := [0, 1, 3]
  insertedWindowDims := [2]
  scatterDimsToOperandDims := [2]
  indexVectorDim := 1
  wf := wf

variable {n : ℕ} (wf : ScatterDims.WF (Cache n) Places (Tokens n) [0, 1, 3] [2] [2] 1)

/-- The place token `k 2` is written to is the table's entry for it. -/
theorem start_place (k : (Tokens n).Idx) (idx : IVec Places 32) :
    (dims n wf).start k idx 2 = (idx (ix2 (k 2) 0)).toInt := by
  unfold ScatterDims.start
  rw [dif_pos (List.mem_singleton.2 rfl)]
  refine congrArg (fun i => (idx i).toInt) (funext fun a => ?_)
  match a with
  | ⟨0, _⟩ => rfl
  | ⟨1, _⟩ => rfl

/-- An entry of the tokens lands at an entry of the cache exactly when head and entry agree and the place is the token's
    own number, if the table counts 0, 1, 2, …. -/
theorem lands_iff (k : (Tokens n).Idx) (idx : IVec Places 32) (hidx : ∀ t : Fin 4096, (idx (ix2 t 0)).toInt = t.val)
    (p : (Cache n).Idx) : (dims n wf).resultIdx? k idx = some p ↔
      (k 1).val = (p 1).val ∧ (k 2).val = (p 2).val ∧ (k 3).val = (p 3).val := by
  rw [resultIdx?_eq_some]
  have s0 : (dims n wf).start k idx 0 = 0 := rfl
  have s1 : (dims n wf).start k idx 1 = 0 := rfl
  have s3 : (dims n wf).start k idx 3 = 0 := rfl
  have s2 : (dims n wf).start k idx 2 = ((k 2).val : Int) := (start_place wf k idx).trans (hidx (k 2))
  have w0 : (dims n wf).window k 0 = (k 0).val := rfl
  have w1 : (dims n wf).window k 1 = (k 1).val := rfl
  have w2 : (dims n wf).window k 2 = 0 := rfl
  have w3 : (dims n wf).window k 3 = (k 3).val := rfl
  have k0 : (k 0).val < 1 := (k 0).isLt
  have p0 : (p 0).val < 1 := (p 0).isLt
  constructor
  · intro h
    have h1 := h 1
    have h2 := h 2
    have h3 := h 3
    rw [s1, w1] at h1
    rw [s2, w2] at h2
    rw [s3, w3] at h3
    omega
  · rintro ⟨h1, h2, h3⟩
    have e0 : (dims n wf).start k idx 0 + ((dims n wf).window k 0 : Int) = ((p 0).val : Int) := by rw [s0, w0]; omega
    have e1 : (dims n wf).start k idx 1 + ((dims n wf).window k 1 : Int) = ((p 1).val : Int) := by rw [s1, w1]; omega
    have e2 : (dims n wf).start k idx 2 + ((dims n wf).window k 2 : Int) = ((p 2).val : Int) := by rw [s2, w2]; omega
    have e3 : (dims n wf).start k idx 3 + ((dims n wf).window k 3 : Int) = ((p 3).val : Int) := by rw [s3, w3]; omega
    intro a
    match a with
    | ⟨0, _⟩ => exact e0
    | ⟨1, _⟩ => exact e1
    | ⟨2, _⟩ => exact e2
    | ⟨3, _⟩ => exact e3

/-- The cache after the write: a place below 4096 holds its token, the others what they held. -/
theorem written {α : Type} (x : (Cache n).Idx → α) (idx : IVec Places 32) (u : (Tokens n).Idx → α)
    (hidx : ∀ t : Fin 4096, (idx (ix2 t 0)).toInt = t.val) (p : (Cache n).Idx) :
    Host.scatter (dims n wf) (fun _ b => b) x idx u p =
      if h : (p 2).val < 4096 then u (ix4 0 (p 1) ⟨(p 2).val, h⟩ (p 3)) else x p := by
  split
  · rename_i h
    refine scatter_set_hit _ x idx u p _ (fun k hk => congrArg u (funext fun a => Fin.ext ?_))
      (ix4 0 (p 1) ⟨(p 2).val, h⟩ (p 3)) ((lands_iff wf _ idx hidx p).2 ⟨rfl, rfl, rfl⟩)
    obtain ⟨h1, h2, h3⟩ := (lands_iff wf k idx hidx p).1 hk
    have k0 : (k 0).val < 1 := (k 0).isLt
    match a with
    | ⟨0, _⟩ => exact Nat.lt_one_iff.1 k0
    | ⟨1, _⟩ => exact h1
    | ⟨2, _⟩ => exact h2
    | ⟨3, _⟩ => exact h3
  · rename_i h
    refine scatter_set_miss _ x idx u p fun k hk => h ?_
    obtain ⟨-, h2, -⟩ := (lands_iff wf k idx hidx p).1 hk
    rw [← h2]
    exact (k 2).isLt

end Cert.RefScatter

end
-- ==== Proof.RefArrays.lean ====
/- The reference's four results at an index, when the tokens go to the places 0, 1, 2, …, 4095 of caches that hold zero:
   slot 0 holds the codes and the norms of the rows, slot 1 is zero. -/
module

public import proofs.«01_k».proof.Proof.RefRows
public import proofs.«01_k».proof.Proof.RefScatter

@[expose] public section

set_option maxRecDepth 16384

noncomputable section

namespace Cert.RefArrays

open Cert.ReferenceIdeal Cert.ReferenceIdeal.Read Idealize.ShloMosaic Cert.Spec Cert.RefRows Cert.RefScatter

variable (x : FVec Ideal S1x32x4096x128 .f32) (b : FVec Ideal S15 .bf16) (rot : FVec Ideal S128x128 .bf16)

/-- Row `4096 h + t` of the flattened array is the row of head `h` and token `t`. -/
theorem flatRow_eq (r : Fin 131072) (h : Fin 32) (t : Fin 4096) (hr : r.val = h.val * 4096 + t.val) :
    flatRow x r = fun k => x (ix4 0 h t k) := by
  have e1 : (⟨r.val / 4096, by omega⟩ : Fin 32) = h := Fin.ext (by simp only; omega)
  have e2 : (⟨r.val % 4096, by omega⟩ : Fin 4096) = t := Fin.ext (by simp only; omega)
  unfold flatRow
  rw [e1, e2]

/-- The code written for a token. -/
theorem code_token (k : S1x32x4096x64.Idx) (h : Fin 32) (t : Fin 4096) (q : Fin 64) (h1 : (k 1).val = h.val)
    (h2 : (k 2).val = t.val) (h3 : (k 3).val = q.val) : val_main_v24 (F := Ideal) x b rot k =
      code (fun i => b (ix1 i)) (fun k j => rot (ix2 k j)) (fun j => x (ix4 0 h t j)) q := by
  have k0 : (k 0).val < 1 := (k 0).isLt
  have hh : h.val < 32 := h.isLt
  have ht : t.val < 4096 := t.isLt
  have hq : q.val < 64 := q.isLt
  rw [val_main_v24_apply]
  refine Eq.trans (congrArg (val_main_v23 (F := Ideal) x b rot) ?_) ((code_apply x b rot ⟨h.val * 4096 + t.val, by omega⟩ q).trans
    (congrArg (fun w => code _ _ w q) (flatRow_eq x _ h t rfl)))
  refine funext fun a => Fin.ext ?_
  match a with
  | ⟨0, _⟩ => show ((((k 0).val * 32 + (k 1).val) * 4096 + (k 2).val) * 64 + (k 3).val) / 64 = h.val * 4096 + t.val; omega
  | ⟨1, _⟩ => show ((((k 0).val * 32 + (k 1).val) * 4096 + (k 2).val) * 64 + (k 3).val) % 64 = q.val; omega

/-- The norm written for a token. -/
theorem norm_token (k : S1x32x4096x1.Idx) (h : Fin 32) (t : Fin 4096) (h1 : (k 1).val = h.val)
    (h2 : (k 2).val = t.val) : val_main_v25 (F := Ideal) x k = norm (fun j => x (ix4 0 h t j)) := by
  have k0 : (k 0).val < 1 := (k 0).isLt
  have k3 : (k 3).val < 1 := (k 3).isLt
  have hh : h.val < 32 := h.isLt
  have ht : t.val < 4096 := t.isLt
  rw [val_main_v25_apply]
  refine Eq.trans (congrArg (val_main_v2 (F := Ideal) x) ?_) ((norm_apply x ⟨h.val * 4096 + t.val, by omega⟩ 0).trans
    (congrArg norm (flatRow_eq x _ h t rfl)))
  refine funext fun a => Fin.ext ?_
  match a with
  | ⟨0, _⟩ => show ((((k 0).val * 32 + (k 1).val) * 4096 + (k 2).val) * 1 + (k 3).val) / 1 = h.val * 4096 + t.val; omega
  | ⟨1, _⟩ => rfl

variable (x0 : IVec S4096 32) (hx0 : ∀ t : Fin 4096, x0 (ix1 t) = BitVec.ofNat 32 t.val)

include hx0 in
/-- The table of places counts 0, 1, 2, …: none of its entries is negative, so wrapping changes none. -/
theorem places_apply (t : Fin 4096) : (val_main_v57 (F := Ideal) x0 (ix2 t 0)).toInt = (t.val : Int) := by
  have ht : t.val < 4096 := t.isLt
  have e : val_main_v57 (F := Ideal) x0 (ix2 t 0) = BitVec.ofNat 32 t.val := by
    pointwise [val_main_v57, val_main_v56, val_main_v55, val_main_v54, val_main_v53, val_main_v52, val_main_c_4,
      val_main_c_5]
    refine (Routing.wrap_of_lt _ _ ?_).trans (hx0 t)
    rw [hx0 t, BitVec.toNat_ofNat]
    omega
  rw [e, BitVec.toInt_ofNat', Int.bmod_def]
  omega

include hx0 in
/-- The array of codes. -/
theorem codes_apply (z : IVec S1x32x8192x64 8) (hz : ∀ p, z p = 0#8) (i : S1x32x2x4096x64.Idx) :
    val_main_v80 (F := Ideal) x0 x b rot z i = if (i 2).val = 0 then
      code (fun i => b (ix1 i)) (fun k j => rot (ix2 k j)) (fun j => x (ix4 0 (i 1) (i 3) j)) (i 4) else 0#8 := by
  have i0 : (i 0).val < 1 := (i 0).isLt
  have i1 : (i 1).val < 32 := (i 1).isLt
  have i2 : (i 2).val < 2 := (i 2).isLt
  have i3 : (i 3).val < 4096 := (i 3).isLt
  have i4 : (i 4).val < 64 := (i 4).isLt
  have p1 : (idx_main_v80 i 1).val = (i 1).val := by
    show (((((i 0).val * 32 + (i 1).val) * 2 + (i 2).val) * 4096 + (i 3).val) * 64 + (i 4).val) / 524288 % 32 = _
    omega
  have p2 : (idx_main_v80 i 2).val = (i 2).val * 4096 + (i 3).val := by
    show (((((i 0).val * 32 + (i 1).val) * 2 + (i 2).val) * 4096 + (i 3).val) * 64 + (i 4).val) / 64 % 8192 = _
    omega
  have p3 : (idx_main_v80 i 3).val = (i 4).val := by
    show (((((i 0).val * 32 + (i 1).val) * 2 + (i 2).val) * 4096 + (i 3).val) * 64 + (i 4).val) % 64 = _
    omega
  rw [val_main_v80_apply]
  refine (written _ z _ _ (places_apply x0 hx0) (idx_main_v80 i)).trans ?_
  by_cases h : (i 2).val = 0
  · rw [if_pos h, dif_pos (by omega)]
    exact code_token x b rot _ (i 1) (i 3) (i 4) p1 (p2.trans (by omega)) p3
  · rw [if_neg h, dif_neg (by omega)]
    exact hz _

include hx0 in
/-- The array of norms. -/
theorem norms_apply (z : FVec Ideal S1x32x8192x1 .bf16) (hz : ∀ p, z p = (0 : EReal)) (i : S1x32x2x4096x1.Idx) :
    val_main_v81 (F := Ideal) x0 x z i = if (i 2).val = 0 then norm (fun j => x (ix4 0 (i 1) (i 3) j)) else (0 : EReal) := by
  have i0 : (i 0).val < 1 := (i 0).isLt
  have i1 : (i 1).val < 32 := (i 1).isLt
  have i2 : (i 2).val < 2 := (i 2).isLt
  have i3 : (i 3).val < 4096 := (i 3).isLt
  have i4 : (i 4).val < 1 := (i 4).isLt
  have p1 : (idx_main_v81 i 1).val = (i 1).val := by
    show (((((i 0).val * 32 + (i 1).val) * 2 + (i 2).val) * 4096 + (i 3).val) * 1 + (i 4).val) / 8192 % 32 = _
    omega
  have p2 : (idx_main_v81 i 2).val = (i 2).val * 4096 + (i 3).val := by
    show (((((i 0).val * 32 + (i 1).val) * 2 + (i 2).val) * 4096 + (i 3).val) * 1 + (i 4).val) / 1 % 8192 = _
    omega
  rw [val_main_v81_apply]
  refine (written _ z _ _ (places_apply x0 hx0) (idx_main_v81 i)).trans ?_
  by_cases h : (i 2).val = 0
  · rw [if_pos h, dif_pos (by omega)]
    exact norm_token x _ (i 1) (i 3) p1 (p2.trans (by omega))
  · rw [if_neg h, dif_neg (by omega)]
    exact hz _

/-- The values' codes are the same function of the values as the keys' codes are of the keys. -/
theorem codes_value (z : IVec S1x32x8192x64 8) :
    val_main_v82 (F := Ideal) x0 x b rot z = val_main_v80 (F := Ideal) x0 x b rot z := rfl

/-- So are the norms. -/
theorem norms_value (z : FVec Ideal S1x32x8192x1 .bf16) :
    val_main_v83 (F := Ideal) x0 x z = val_main_v81 (F := Ideal) x0 x z := rfl

end Cert.RefArrays

end
-- ==== Proof.Filled.lean ====
/- What the precondition says of the arguments: the places are 0, 1, 2, …, and the caches hold zero. -/
module

public import proofs.«01_k».proof.Defs
public import proofs.«01_k».proof.Proof.Gen.Pre_cache_is_filled_from_empty
public import Idealize.ShloMosaic.Lib.Affine
public import Idealize.ShloMosaic.Lib.Pipeline.ValueKit
public import Idealize.ShloMosaic.PureOps.Ideal.Laws

@[expose] public section

noncomputable section

namespace Cert.Filled

open Cert.Pre_cache_is_filled_from_empty Idealize.ShloMosaic

/-- A table that compares equal to 0, 1, 2, … is 0, 1, 2, …. -/
theorem place_eq (x0 : IVec S4096 32) (h : cmpi .eq x0 (iotaInDim S4096 32 0) = fun _ => 1#1) (t : Fin 4096) :
    x0 (ix1 t) = BitVec.ofNat 32 t.val :=
  IntOp.cmpi_eq.1 (congrFun h (ix1 t))

/-- A cache of codes that compares equal to zero is zero. -/
theorem code_zero {s : Shape} (x z : IVec s 8) (hz : ∀ p, z p = 0#8) (h : cmpi .eq x z = fun _ => 1#1) (p : s.Idx) :
    x p = 0#8 :=
  (IntOp.cmpi_eq.1 (congrFun h p)).trans (hz p)

/-- A cache of norms that compares equal to zero is zero. -/
theorem norm_zero {s : Shape} (x z : FVec Ideal s .bf16) (hz : ∀ p, z p = (0 : EReal))
    (h : cmpf .oeq x z = fun _ => 1#1) (p : s.Idx) : x p = (0 : EReal) := by
  refine Eq.trans ?_ (hz p)
  by_contra hne
  have h1 : cmpf .oeq x z p = 0#1 := by
    show BitVec.ofBool (decide ((x p : EReal) = z p)) = 0#1
    rw [decide_eq_false hne]
    rfl
  rw [congrFun h p] at h1
  exact absurd h1 (by decide)

end Cert.Filled

end
-- ==== Proof.Equal.lean ====
/- The equation between the two programs: on the same arguments, under the precondition, the reference's four result
   terms are the four arrays the kernel leaves. -/
module

public import proofs.«01_k».proof.Proof.Arrays
public import proofs.«01_k».proof.Proof.RefArrays
public import proofs.«01_k».proof.Proof.Filled
public import Idealize.ShloMosaic.Lib.IdealHost

@[expose] public section

noncomputable section

namespace Cert.Equal

open Cert.KernelIdeal Idealize.ShloMosaic Idealize.ShloMosaic.TcCoe Idealize.SL.Sem
open Cert.ReferenceIdeal.Read Cert.Arrays Cert.RefArrays Cert.Filled

attribute [local instance] Cert.Pre_cache_is_filled_from_empty.Gen.facts

variable (m : (ℓ : Loc nD τ sig) → Buf (Elt Ideal) ℓ) (hpre : Pre_KernelIdeal_cache_is_filled_from_empty m) (c : Dev nD)

include hpre in
/-- The places are 0, 1, 2, …. -/
theorem places (t : Fin 4096) : m ((c.tc : Thread nD τ).loc main_arg0) (ix1 t) = BitVec.ofNat 32 t.val :=
  place_eq _ (hpre c).1 t

include hpre in
/-- The cache of the keys' codes holds zero. -/
theorem zero_codesKey (p : S1x32x8192x64.Idx) : m ((c.tc : Thread nD τ).loc main_arg5) p = 0#8 :=
  code_zero _ _ (fun _ => rfl) (hpre c).2.1 p

include hpre in
/-- The cache of the keys' norms holds zero. -/
theorem zero_normsKey (p : S1x32x8192x1.Idx) : m ((c.tc : Thread nD τ).loc main_arg6) p = (0 : EReal) :=
  norm_zero _ _ (fun _ => Ideal.ofBits_zero_bf16) (hpre c).2.2.1 p

include hpre in
/-- The cache of the values' codes holds zero. -/
theorem zero_codesValue (p : S1x32x8192x64.Idx) : m ((c.tc : Thread nD τ).loc main_arg7) p = 0#8 :=
  code_zero _ _ (fun _ => rfl) (hpre c).2.2.2.1 p

include hpre in
/-- The cache of the values' norms holds zero. -/
theorem zero_normsValue (p : S1x32x8192x1.Idx) : m ((c.tc : Thread nD τ).loc main_arg8) p = (0 : EReal) :=
  norm_zero _ _ (fun _ => Ideal.ofBits_zero_bf16) (hpre c).2.2.2.2 p

include hpre in
/-- The codes of the keys. -/
theorem codesKey_eq : val_main_v80 (F := Ideal) (m ((c.tc : Thread nD τ).loc main_arg0)) (m ((c.tc : Thread nD τ).loc main_arg1))
    (m ((c.tc : Thread nD τ).loc main_arg3)) (m ((c.tc : Thread nD τ).loc main_arg4))
    (m ((c.tc : Thread nD τ).loc main_arg5)) = codesKey m c :=
  funext fun i => codes_apply _ _ _ _ (places m hpre c) _ (zero_codesKey m hpre c) i

include hpre in
/-- The norms of the keys. -/
theorem normsKey_eq : val_main_v81 (F := Ideal) (m ((c.tc : Thread nD τ).loc main_arg0)) (m ((c.tc : Thread nD τ).loc main_arg1))
    (m ((c.tc : Thread nD τ).loc main_arg6)) = normsKey m c :=
  funext fun i => norms_apply _ _ (places m hpre c) _ (zero_normsKey m hpre c) i

include hpre in
/-- The codes of the values. -/
theorem codesValue_eq : val_main_v82 (F := Ideal) (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg7)) = codesValue m c :=
  (codes_value _ _ _ _ _).trans
    (funext fun i => codes_apply _ _ _ _ (places m hpre c) _ (zero_codesValue m hpre c) i)

include hpre in
/-- The norms of the values. -/
theorem normsValue_eq : val_main_v83 (F := Ideal) (m ((c.tc : Thread nD τ).loc main_arg0)) (m ((c.tc : Thread nD τ).loc main_arg2))
    (m ((c.tc : Thread nD τ).loc main_arg8)) = normsValue m c :=
  (norms_value _ _ _).trans (funext fun i => norms_apply _ _ (places m hpre c) _ (zero_normsValue m hpre c) i)

end Cert.Equal

end
-- ==== Proof.lean ====
/- The claim, put together: the frames of the three programs, and the equality of the kernel's four results with the
   reference's over the extended reals. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_cache_is_filled_from_empty
public import proofs.«01_k».proof.Proof.Equal
public import Idealize.ShloMosaic.Lib.Quiescent

@[expose] public section

noncomputable section

namespace Cert.Proof

open Idealize.ShloMosaic Idealize.SL.Sem Cert.Arrays Cert.Equal

attribute [local instance] Cert.Pre_cache_is_filled_from_empty.Gen.facts

/-- The reference runs, leaves its arguments as they were, and declares no semaphore. -/
theorem frame_reference : Cert.quiescent_ReferenceIdeal := fun m g _ =>
  (θ_run _ _ _).mono (fun r h => ⟨fun c => (h c).2.2.2.2, sem_eq_zero_of_no_sems rfl r.2⟩)
    (Cert.ReferenceIdeal.Value.run (F := Ideal) m g)

/-- The kernel and the reference end with equal results. -/
theorem results_equal : Cert.algebraic_KernelIdeal_ReferenceIdeal_pre_cache_is_filled_from_empty := by
  intro m g m' g' hpre hagree
  refine ⟨codesKey m, normsKey m, codesValue m, normsValue m, ?_, ?_⟩
  · refine (θ_run _ _ _).mono (fun r h c => ?_) (Cert.KernelIdeal.Value.run_blocks (F := Ideal) m g)
    obtain ⟨h0, h1, h2, h3, args⟩ := h c
    exact ⟨h0.trans (final5 m c), h1.trans (final6 m c), h2.trans (final7 m c), h3.trans (final8 m c), args⟩
  · refine (θ_run _ _ _).mono (fun r h c => ?_) (Cert.ReferenceIdeal.Value.run (F := Ideal) m' g')
    obtain ⟨h0, h1, h2, h3, args⟩ := h c
    obtain ⟨a0, a1, a2, a3, a4, a5, a6, a7, a8⟩ := hagree c
    rw [a0, a1, a3, a4, a5] at h0
    rw [a0, a1, a6] at h1
    rw [a0, a2, a3, a4, a7] at h2
    rw [a0, a2, a8] at h3
    exact ⟨h0.trans (codesKey_eq m hpre c), h1.trans (normsKey_eq m hpre c), h2.trans (codesValue_eq m hpre c),
      h3.trans (normsValue_eq m hpre c), args⟩

/-- Everything claimed. -/
theorem claim : Cert.Claim := ⟨Cert.Kernel.Gen.facts, Cert.KernelIdeal.Gen.facts, Cert.ReferenceIdeal.Gen.facts,
  Cert.Pre_cache_is_filled_from_empty.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  results_equal⟩

end Cert.Proof

end
